-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S96x1x16384 : Shape := ⟨3, ![96, 1, 16384]⟩
abbrev S8192x3584 : Shape := ⟨2, ![8192, 3584]⟩
abbrev S128x3584 : Shape := ⟨2, ![128, 3584]⟩
abbrev S96x16384 : Shape := ⟨2, ![96, 16384]⟩
abbrev S96x3584 : Shape := ⟨2, ![96, 3584]⟩
abbrev S8192x256 : Shape := ⟨2, ![8192, 256]⟩
abbrev S128x256 : Shape := ⟨2, ![128, 256]⟩
abbrev S96x256 : Shape := ⟨2, ![96, 256]⟩
abbrev S96x2048 : Shape := ⟨2, ![96, 2048]⟩
abbrev S1024x256 : Shape := ⟨2, ![1024, 256]⟩
abbrev S256x256 : Shape := ⟨2, ![256, 256]⟩
abbrev S256x1x256 : Shape := ⟨3, ![256, 1, 256]⟩
abbrev S256x8x256 : Shape := ⟨3, ![256, 8, 256]⟩
abbrev S2048x256 : Shape := ⟨2, ![2048, 256]⟩
abbrev S1x256 : Shape := ⟨2, ![1, 256]⟩

abbrev nBuf : Space → Nat
  | .hbm => 7
  | .vmem => 13
  | .smem => 0
  | _ => 0

abbrev bufTy : (tb : Table) → Fin (tcTables nBuf tb) → BufTy
  | .hbm, ⟨0, _⟩ => ⟨S96x1x16384, .bf16⟩
  | .hbm, ⟨1, _⟩ => ⟨S8192x3584, .i8⟩
  | .hbm, ⟨2, _⟩ => ⟨S128x3584, .bf16⟩
  | .hbm, ⟨3, _⟩ => ⟨S8192x3584, .i8⟩
  | .hbm, ⟨4, _⟩ => ⟨S128x3584, .bf16⟩
  | .hbm, ⟨5, _⟩ => ⟨S96x16384, .bf16⟩
  | .hbm, ⟨6, _⟩ => ⟨S96x3584, .bf16⟩
  | .local _ .vmem, ⟨0, _⟩ => ⟨S96x16384, .bf16⟩
  | .local _ .vmem, ⟨1, _⟩ => ⟨S8192x256, .i8⟩
  | .local _ .vmem, ⟨2, _⟩ => ⟨S8192x256, .i8⟩
  | .local _ .vmem, ⟨3, _⟩ => ⟨S128x256, .bf16⟩
  | .local _ .vmem, ⟨4, _⟩ => ⟨S128x256, .bf16⟩
  | .local _ .vmem, ⟨5, _⟩ => ⟨S8192x256, .i8⟩
  | .local _ .vmem, ⟨6, _⟩ => ⟨S8192x256, .i8⟩
  | .local _ .vmem, ⟨7, _⟩ => ⟨S128x256, .bf16⟩
  | .local _ .vmem, ⟨8, _⟩ => ⟨S128x256, .bf16⟩
  | .local _ .vmem, ⟨9, _⟩ => ⟨S96x256, .bf16⟩
  | .local _ .vmem, ⟨10, _⟩ => ⟨S96x256, .bf16⟩
  | .local _ .vmem, ⟨11, _⟩ => ⟨S128x256, .f32⟩
  | .local _ .vmem, ⟨12, _⟩ => ⟨S128x256, .f32⟩
  | _, _ => ⟨S96x1x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![14], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S96x16384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8192x256 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8192x256 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S96x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S96x1x16384 : Shape := ⟨3, ![96, 1, 16384]⟩
abbrev S8192x3584 : Shape := ⟨2, ![8192, 3584]⟩
abbrev S128x3584 : Shape := ⟨2, ![128, 3584]⟩
abbrev S96x1x8192 : Shape := ⟨3, ![96, 1, 8192]⟩
abbrev S_ : Shape := ⟨0, ![]⟩
abbrev S128x64x3584 : Shape := ⟨3, ![128, 64, 3584]⟩
abbrev S128x1x3584 : Shape := ⟨3, ![128, 1, 3584]⟩
abbrev S96x1x3584 : Shape := ⟨3, ![96, 1, 3584]⟩
abbrev S96x3584 : Shape := ⟨2, ![96, 3584]⟩

abbrev nBuf : Space → Nat
  | .hbm => 75
  | .vmem => 0
  | .smem => 0
  | _ => 0

abbrev bufTy : (tb : Table) → Fin (tcTables nBuf tb) → BufTy
  | .hbm, ⟨0, _⟩ => ⟨S96x1x16384, .bf16⟩
  | .hbm, ⟨1, _⟩ => ⟨S8192x3584, .i8⟩
  | .hbm, ⟨2, _⟩ => ⟨S128x3584, .bf16⟩
  | .hbm, ⟨3, _⟩ => ⟨S8192x3584, .i8⟩
  | .hbm, ⟨4, _⟩ => ⟨S128x3584, .bf16⟩
  | .hbm, ⟨5, _⟩ => ⟨S96x1x8192, .bf16⟩
  | .hbm, ⟨6, _⟩ => ⟨S96x1x8192, .bf16⟩
  | .hbm, ⟨7, _⟩ => ⟨S8192x3584, .i32⟩
  | .hbm, ⟨8, _⟩ => ⟨S_, .i32⟩
  | .hbm, ⟨9, _⟩ => ⟨S8192x3584, .i32⟩
  | .hbm, ⟨10, _⟩ => ⟨S8192x3584, .i32⟩
  | .hbm, ⟨11, _⟩ => ⟨S8192x3584, .bf16⟩
  | .hbm, ⟨12, _⟩ => ⟨S_, .bf16⟩
  | .hbm, ⟨13, _⟩ => ⟨S8192x3584, .bf16⟩
  | .hbm, ⟨14, _⟩ => ⟨S8192x3584, .bf16⟩
  | .hbm, ⟨15, _⟩ => ⟨S128x64x3584, .bf16⟩
  | .hbm, ⟨16, _⟩ => ⟨S128x1x3584, .bf16⟩
  | .hbm, ⟨17, _⟩ => ⟨S128x64x3584, .bf16⟩
  | .hbm, ⟨18, _⟩ => ⟨S128x64x3584, .bf16⟩
  | .hbm, ⟨19, _⟩ => ⟨S8192x3584, .bf16⟩
  | .hbm, ⟨20, _⟩ => ⟨S_, .i32⟩
  | .hbm, ⟨21, _⟩ => ⟨S8192x3584, .i32⟩
  | .hbm, ⟨22, _⟩ => ⟨S8192x3584, .i32⟩
  | .hbm, ⟨23, _⟩ => ⟨S8192x3584, .bf16⟩
  | .hbm, ⟨24, _⟩ => ⟨S_, .bf16⟩
  | .hbm, ⟨25, _⟩ => ⟨S8192x3584, .bf16⟩
  | .hbm, ⟨26, _⟩ => ⟨S8192x3584, .bf16⟩
  | .hbm, ⟨27, _⟩ => ⟨S128x64x3584, .bf16⟩
  | .hbm, ⟨28, _⟩ => ⟨S128x1x3584, .bf16⟩
  | .hbm, ⟨29, _⟩ => ⟨S128x64x3584, .bf16⟩
  | .hbm, ⟨30, _⟩ => ⟨S128x64x3584, .bf16⟩
  | .hbm, ⟨31, _⟩ => ⟨S8192x3584, .bf16⟩
  | .hbm, ⟨32, _⟩ => ⟨S96x1x3584, .f32⟩
  | .hbm, ⟨33, _⟩ => ⟨S96x1x3584, .f32⟩
  | .hbm, ⟨34, _⟩ => ⟨S96x1x3584, .f32⟩
  | .hbm, ⟨35, _⟩ => ⟨S8192x3584, .i32⟩
  | .hbm, ⟨36, _⟩ => ⟨S_, .i32⟩
  | .hbm, ⟨37, _⟩ => ⟨S8192x3584, .i32⟩
  | .hbm, ⟨38, _⟩ => ⟨S8192x3584, .i32⟩
  | .hbm, ⟨39, _⟩ => ⟨S8192x3584, .bf16⟩
  | .hbm, ⟨40, _⟩ => ⟨S_, .bf16⟩
  | .hbm, ⟨41, _⟩ => ⟨S8192x3584, .bf16⟩
  | .hbm, ⟨42, _⟩ => ⟨S8192x3584, .bf16⟩
  | .hbm, ⟨43, _⟩ => ⟨S128x64x3584, .bf16⟩
  | .hbm, ⟨44, _⟩ => ⟨S128x1x3584, .bf16⟩
  | .hbm, ⟨45, _⟩ => ⟨S128x64x3584, .bf16⟩
  | .hbm, ⟨46, _⟩ => ⟨S128x64x3584, .bf16⟩
  | .hbm, ⟨47, _⟩ => ⟨S8192x3584, .bf16⟩
  | .hbm, ⟨48, _⟩ => ⟨S_, .i32⟩
  | .hbm, ⟨49, _⟩ => ⟨S8192x3584, .i32⟩
  | .hbm, ⟨50, _⟩ => ⟨S8192x3584, .i32⟩
  | .hbm, ⟨51, _⟩ => ⟨S8192x3584, .bf16⟩
  | .hbm, ⟨52, _⟩ => ⟨S_, .bf16⟩
  | .hbm, ⟨53, _⟩ => ⟨S8192x3584, .bf16⟩
  | .hbm, ⟨54, _⟩ => ⟨S8192x3584, .bf16⟩
  | .hbm, ⟨55, _⟩ => ⟨S128x64x3584, .bf16⟩
  | .hbm, ⟨56, _⟩ => ⟨S128x1x3584, .bf16⟩
  | .hbm, ⟨57, _⟩ => ⟨S128x64x3584, .bf16⟩
  | .hbm, ⟨58, _⟩ => ⟨S128x64x3584, .bf16⟩
  | .hbm, ⟨59, _⟩ => ⟨S8192x3584, .bf16⟩
  | .hbm, ⟨60, _⟩ => ⟨S96x1x3584, .f32⟩
  | .hbm, ⟨61, _⟩ => ⟨S96x1x3584, .f32⟩
  | .hbm, ⟨62, _⟩ => ⟨S96x1x3584, .f32⟩
  | .hbm, ⟨63, _⟩ => ⟨S96x1x3584, .f32⟩
  | .hbm, ⟨64, _⟩ => ⟨S96x1x3584, .f32⟩
  | .hbm, ⟨65, _⟩ => ⟨S_, .f32⟩
  | .hbm, ⟨66, _⟩ => ⟨S96x1x3584, .f32⟩
  | .hbm, ⟨67, _⟩ => ⟨S96x1x3584, .f32⟩
  | .hbm, ⟨68, _⟩ => ⟨S_, .f32⟩
  | .hbm, ⟨69, _⟩ => ⟨S96x1x3584, .f32⟩
  | .hbm, ⟨70, _⟩ => ⟨S96x1x3584, .f32⟩
  | .hbm, ⟨71, _⟩ => ⟨S96x1x3584, .f32⟩
  | .hbm, ⟨72, _⟩ => ⟨S96x1x3584, .f32⟩
  | .hbm, ⟨73, _⟩ => ⟨S96x1x3584, .bf16⟩
  | .hbm, ⟨74, _⟩ => ⟨S96x3584, .bf16⟩
  | _, _ => ⟨S96x1x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_c_2 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_3 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_c_4 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_5 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_call0_v0 : Ref sig .tc := ⟨.hbm, 63, rfl⟩
abbrev main_call0_v1 : Ref sig .tc := ⟨.hbm, 64, rfl⟩
abbrev main_call0_cst : Ref sig .tc := ⟨.hbm, 65, rfl⟩
abbrev main_call0_v2 : Ref sig .tc := ⟨.hbm, 66, rfl⟩
abbrev main_call0_v3 : Ref sig .tc := ⟨.hbm, 67, rfl⟩
abbrev main_call0_cst_0 : Ref sig .tc := ⟨.hbm, 68, rfl⟩
abbrev main_call0_v4 : Ref sig .tc := ⟨.hbm, 69, rfl⟩
abbrev main_call0_v5 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩

abbrev nD : Nat := 1
abbrev τ : Topo := Topo.v7x

variable {F : FTy → Type} [FloatOps F]
-- ==== Proof.Block.lean ====
/- What one block of the kernel computes, written over the block's inputs: the eight chunks of the
   contraction in order, each a matrix product added to a running sum. -/
module

public import proofs.«01_k».proof.Proof.Gen.KernelIdeal.Value
public import Idealize.ShloMosaic.Lib.Pipeline.ValueKit

@[expose] public section

set_option maxRecDepth 65536

noncomputable section

namespace Cert.KernelIdeal.Block

open Cert.KernelIdeal Cert.KernelIdeal.Gen Idealize.ShloMosaic Idealize.ShloMosaic.TcCoe Idealize.SL.Sem

variable {F : FTy → Type} [FloatOps F]

/-- The sixteen groups of one chunk fit in its 2048 rows. -/
theorem slices_group (g : Fin 16) : Shape.Slices S2048x256 ![128 * g.val, 0] S128x256 := by
  revert g; decide

/-- One group's 128 rows of weights: its rows of the signed codes, each multiplied by the group's
    row of scales. -/
def piece (codes : FVec F S2048x256 .bf16) (rows : Fin 16 → Vec F S1x256 .f32) (g : Fin 16) :
    FVec F S128x256 .bf16 :=
  mulf (extractStridedSlice S128x256 ![128 * g.val, 0] codes (slices_group g))
    (truncf .bf16 (broadcastTo S128x256 (shapeCast S1x256 (rows g) shapeCasts_S1x256_S1x256)
      broadcasts_S1x256_S128x256) bitsLt_bf16_f32)

/-- One chunk's 2048 rows of weights: sixteen groups of 128 rows, one under the other. -/
def chunkW (codes : FVec F S2048x256 .bf16) (rows : Fin 16 → Vec F S1x256 .f32) :
    FVec F S2048x256 .bf16 :=
  concatenate S2048x256 0 (List.ofFn fun g : Fin 16 => ⟨S128x256, piece codes rows g⟩)
    concatenates_S128x256_S128x256_S128x256_S128x256_S128x256_S128x256_S128x256_S128x256_S128x256_S128x256_S128x256_S128x256_S128x256_S128x256_S128x256_S128x256_S2048x256_d0

/-- The running sum after one more chunk: the chunk of x times the chunk of weights is added. -/
def step (x : Fin 8 → Vec F S96x2048 .bf16) (w : Fin 8 → Vec F S1024x256 .i8)
    (rows : Fin 128 → Vec F S1x256 .f32) (n : Fin 8) (acc : FVec F S96x256 .f32) :
    FVec F S96x256 .f32 :=
  addf acc (matmul dot_S96x2048_S2048x256_S96x256_1_0_0_1_n_n none (k0_pay6 (x n))
    (chunkW (k0_pay7 (w n)) fun g => rows ⟨16 * n.val + g.val, by omega⟩)
    (constant S96x256 .f32 0x00000000#32))

/-- The sum over the eight chunks in order, from zero. -/
def total (x : Fin 8 → Vec F S96x2048 .bf16) (w : Fin 8 → Vec F S1024x256 .i8)
    (rows : Fin 128 → Vec F S1x256 .f32) : FVec F S96x256 .f32 :=
  step x w rows 7 (step x w rows 6 (step x w rows 5 (step x w rows 4 (step x w rows 3
    (step x w rows 2 (step x w rows 1 (step x w rows 0 k0_pay4)))))))

/-- The columns of chunk `n` lie in x. -/
theorem inb_x (n : Fin 8) (a : Fin 2) : ![0, 2048 * n.val] a + S96x2048.size a ≤ S96x16384.size a := by
  revert n a; decide

/-- The packed rows of chunk `n` lie in the weights. -/
theorem inb_w (n : Fin 8) (a : Fin 2) : ![1024 * n.val, 0] a + S1024x256.size a ≤ S8192x256.size a := by
  revert n a; decide

/-- Row `g` lies in the scales. -/
theorem inb_s (g : Fin 128) (a : Fin 2) : ![g.val, 0] a + S1x256.size a ≤ S128x256.size a := by
  revert g a; decide

/-- Chunk `n` of the columns of x. -/
def xChunk (x : Vec F S96x16384 .bf16) (n : Fin 8) : Vec F S96x2048 .bf16 :=
  View.ld x (Rect.unit (s := S96x16384) ![0, 2048 * n.val] S96x2048.size (inb_x n))

/-- Chunk `n` of the packed rows of the weights. -/
def wChunk (w : Vec F S8192x256 .i8) (n : Fin 8) : Vec F S1024x256 .i8 :=
  View.ld w (Rect.unit (s := S8192x256) ![1024 * n.val, 0] S1024x256.size (inb_w n))

/-- Row `g` of the scales. -/
def sRow (s : Vec F S128x256 .f32) (g : Fin 128) : Vec F S1x256 .f32 :=
  View.ld s (Rect.unit (s := S128x256) ![g.val, 0] S1x256.size (inb_s g))

/-- x times one dequantised block of weights, as the block computes it. -/
def proj (x : Vec F S96x16384 .bf16) (w : Vec F S8192x256 .i8) (s : Vec F S128x256 .bf16) :
    FVec F S96x256 .f32 :=
  total (xChunk x) (wChunk w) (sRow (k0_pay2 s))

/-- What the block writes: the first projection times its logistic, times the second projection. -/
def blockOut (x : Vec F S96x16384 .bf16) (wg : Vec F S8192x256 .i8) (sg : Vec F S128x256 .bf16)
    (wu : Vec F S8192x256 .i8) (su : Vec F S128x256 .bf16) : FVec F S96x256 .bf16 :=
  k0_pay1 (proj x wg sg) (proj x wu su) (k0_pay268 (proj x wg sg))

variable (c : Dev nD) (arg1 : Memref sig .tc .vmem S96x16384 .bf16) (harg1 : arg1.IsWhole)
  (arg2 : Memref sig .tc .vmem S8192x256 .i8) (harg2 : arg2.IsWhole)
  (arg3 : Memref sig .tc .vmem S128x256 .bf16) (harg3 : arg3.IsWhole)
  (arg4 : Memref sig .tc .vmem S8192x256 .i8) (harg4 : arg4.IsWhole)
  (arg5 : Memref sig .tc .vmem S128x256 .bf16) (harg5 : arg5.IsWhole)
  (arg7 arg8 : Memref sig .tc .vmem S128x256 .f32)
  (x0 : Vec F S96x16384 .bf16) (x1 : Vec F S8192x256 .i8) (x2 : Vec F S128x256 .bf16)
  (x3 : Vec F S8192x256 .i8) (x4 : Vec F S128x256 .bf16)

/-- The origin of a rank-two box. -/
theorem zero2 : (![0, 0] : Fin 2 → Nat) = fun _ => 0 := by decide

/-- A load of a row of what one store has filled the scratch with. -/
theorem row_load (v : View sig .tc .vmem S128x256 .f32) (s : Vec F S128x256 .f32) (g : Fin 128) :
    v.readCov [⟨Rect.unit ![0, 0] S128x256.size inb_S128x256_S128x256_0_0, s⟩]
      (Rect.unit (s := S128x256) ![g.val, 0] S1x256.size (inb_s g)).toLoadRect = sRow s g := by
  rw [View.readCov_eq_canon', View.canon_cons_unit_lit _ _ _ (by decide)]
  rfl

/-- A load of the whole of the scales reads them. -/
theorem scales_load : View.readAt (Elt F) arg3.view
    (Rect.unit ![0, 0] S128x256.size inb_S128x256_S128x256_0_0).toLoadRect (harg3.unread x2) = x2 := by
  refine Eq.trans (View.ld_unit_zero (S := S128x256) zero2 _ _) ?_
  exact harg3.read_unread x2

/-- What the run names the first projection is `proj`. -/
theorem gate_eq : kernelRun0_A.sl.r_239 c arg1 harg1 arg2 harg2 arg3 harg3 arg7 x0 x1 x2
    = proj x0 x1 x2 := by
  have e : kernelRun0_A.sl.r_239 c arg1 harg1 arg2 harg2 arg3 harg3 arg7 x0 x1 x2
      = total (xChunk (arg1.view.read (Elt F) (harg1.unread x0)))
        (wChunk (arg2.view.read (Elt F) (harg2.unread x1)))
        (fun g => arg7.view.readCov (kernelRun0_A.sl.HS0_1 c arg3 harg3 x2)
          (Rect.unit (s := S128x256) ![g.val, 0] S1x256.size (inb_s g)).toLoadRect) := rfl
  rw [e]
  unfold kernelRun0_A.sl.HS0_1
  rw [scales_load, harg1.read_unread, harg2.read_unread]
  exact congrArg (total _ _) (funext fun g => row_load _ _ g)

/-- What the run names the second projection is `proj`. -/
theorem up_eq : kernelRun0_A.sl.r_258 c arg1 harg1 arg4 harg4 arg5 harg5 arg8 x0 x3 x4
    = proj x0 x3 x4 := by
  have e : kernelRun0_A.sl.r_258 c arg1 harg1 arg4 harg4 arg5 harg5 arg8 x0 x3 x4
      = total (xChunk (arg1.view.read (Elt F) (harg1.unread x0)))
        (wChunk (arg4.view.read (Elt F) (harg4.unread x3)))
        (fun g => arg8.view.readCov (kernelRun0_A.sl.HS1_1 c arg5 harg5 x4)
          (Rect.unit (s := S128x256) ![g.val, 0] S1x256.size (inb_s g)).toLoadRect) := rfl
  rw [e]
  unfold kernelRun0_A.sl.HS1_1
  rw [scales_load, harg1.read_unread, harg4.read_unread]
  exact congrArg (total _ _) (funext fun g => row_load _ _ g)

/-- What the block leaves in its output buffer is `blockOut` of its inputs. -/
theorem out_eq (i : grid0.Coords) (arg6 : Memref sig .tc .vmem S96x256 .bf16) (harg6 : arg6.IsWhole)
    (harg7 : arg7.IsWhole) (harg8 : arg8.IsWhole) :
    out0_A_5 c i arg1 harg1 arg2 harg2 arg3 harg3 arg4 harg4 arg5 harg5 arg6 harg6 arg7 harg7 arg8
      harg8 x0 x1 x2 x3 x4 = blockOut x0 x1 x2 x3 x4 := by
  unfold out0_A_5
  rw [View.read_writes_eq_canon _ _ _ (cover0_A_5 c _ _ _ _ _ _ _ _ _ _ _ _ _ _ _ _ _ _ _ _ _ _)]
  unfold kernelRun0_A
  dsimp only
  rw [View.canon_cons_unit_lit _ _ _ (by decide), gate_eq, up_eq]
  unfold kernelRun0_A.sl.r_259
  rw [gate_eq]
  rfl

end Cert.KernelIdeal.Block
-- ==== Proof.Nibble.lean ====
/- The two four-bit codes of a packed byte: how the kernel reads them out of 32-bit words, and how the
   reference reads them out of the byte. -/
module

public import proofs.«01_k».proof.Proof.Gen.KernelIdeal.Skeleton
public import Idealize.ShloMosaic.Lib.Pointwise
public import Idealize.ShloMosaic.Lib.BitcastFour

@[expose] public section

set_option maxRecDepth 16384

noncomputable section

namespace Cert.Codes

open Idealize.ShloMosaic

/-- The low (`p = 0`) or the high (`p = 1`) four bits of a byte. -/
def nib (b : BitVec 8) (p : Nat) : BitVec 4 := b.extractLsb' (4 * p) 4

/-- The code that four bits stand for: their value less eight. -/
def code (v : BitVec 4) : EReal := (((v.toNat : Int) - 8 : Int) : ℝ)

/-- Four bits with the top one flipped, read signed, are their value less eight. -/
theorem toInt_flip (v : BitVec 4) : (BitVec.signExtend 32 (v ^^^ 8#4)).toInt = (v.toNat : Int) - 8 := by
  revert v; decide

/-- Shifting nibble `n` of a word to the top and back, signed, reads that nibble signed. -/
theorem shift_up_down (W : BitVec 32) (n : Nat) (h : n < 8) :
    (W <<< (28 - 4 * n)).sshiftRight 28 = BitVec.signExtend 32 (W.extractLsb' (4 * n) 4) := by
  apply BitVec.eq_of_getLsbD_eq
  intro i hi
  simp only [BitVec.getLsbD_sshiftRight, BitVec.getLsbD_signExtend, BitVec.getLsbD_shiftLeft,
    BitVec.getLsbD_extractLsb', BitVec.msb_eq_getLsbD_last]
  by_cases hi4 : i < 4
  · have e : 28 + i - (28 - 4 * n) = 4 * n + i := by omega
    have h1 : 28 + i < 32 := by omega
    have h2 : ¬ 28 + i < 28 - 4 * n := by omega
    have h3 : ¬ 32 ≤ i := by omega
    simp [hi, hi4, e, h1, h2, h3]
  · have e : 31 - (28 - 4 * n) = 4 * n + 3 := by omega
    have h1 : ¬ 28 + i < 32 := by omega
    have h2 : ¬ 31 < 28 - 4 * n := by omega
    have h3 : ¬ 32 ≤ i := by omega
    simp [hi, hi4, e, h1, h2, h3]

/-- The eights of the mask flip the top bit of every nibble. -/
theorem extract_flip (W : BitVec 32) (n : Nat) (h : n < 8) :
    (W ^^^ 2290649224#32).extractLsb' (4 * n) 4 = W.extractLsb' (4 * n) 4 ^^^ 8#4 := by
  apply BitVec.eq_of_getLsbD_eq
  intro i hi
  have e : (2290649224#32).getLsbD (4 * n + i) = (8#4).getLsbD i := by
    interval_cases n <;> interval_cases i <;> rfl
  simp [BitVec.getLsbD_extractLsb', hi, e]

/-- What the kernel does to a word to read its nibble `n`: the code that nibble stands for. -/
theorem kernel_code (W : BitVec 32) (n : Nat) (h : n < 8) :
    (IntOp.shrsi .vector (IntOp.shli .vector (IntOp.xori W 2290649224#32)
      (IntOp.subi (28#32) (IntOp.muli (4#32) (BitVec.ofNat 32 n)))) 28#32).toInt
    = ((W.extractLsb' (4 * n) 4).toNat : Int) - 8 := by
  have e : (28#32 - 4#32 * BitVec.ofNat 32 n).toNat = 28 - 4 * n := by interval_cases n <;> rfl
  have e' : (28#32 : BitVec 32).toNat = 28 := rfl
  simp only [IntOp.shrsi, IntOp.shli, IntOp.xori, IntOp.subi, IntOp.muli, BitVec.shiftLeft_eq',
    BitVec.sshiftRight', e, e']
  rw [if_pos (by omega), if_pos (by omega), shift_up_down _ n h, extract_flip _ n h, toInt_flip]

/-- The word of four rows of bytes holds row `4 a + n / 2`'s nibble `n % 2` as its nibble `n`. -/
theorem extract_word {R r m : Nat} (x : (⟨2, ![R, m]⟩ : Shape).Idx → BitVec 8)
    (h : (⟨2, ![R, m]⟩ : Shape).Bitcasts 8 ⟨2, ![r, m]⟩ 32) (a : Fin r) (l : Fin m) (n : Nat)
    (hn : n < 8) (p : Fin R) (hp : p.val = 4 * a.val + n / 2) :
    (bitcast ⟨2, ![r, m]⟩ 32 x h (ix2 a l)).extractLsb' (4 * n) 4 = nib (x (ix2 p l)) (n % 2) := by
  apply BitVec.eq_of_getLsbD_eq
  intro i hi
  have e : (4 * n + i) % 8 = 4 * (n % 2) + i := by omega
  have b : (bitcast ⟨2, ![r, m]⟩ 32 x h (ix2 a l)).getLsbD (4 * n + i)
      = (x (ix2 p l)).getLsbD ((4 * n + i) % 8) :=
    bitcast_8_32_getLsbD_ix2 x h a l (4 * n + i) (by omega) p (by omega)
  rw [nib, BitVec.getLsbD_extractLsb', BitVec.getLsbD_extractLsb', b, e]

/-- The reference's low code of a byte. -/
theorem ref_lo (b : BitVec 8) : ((BitVec.setWidth 32 b &&& 15#32).toNat : Int) = ((nib b 0).toNat : Int) := by
  revert b; decide

/-- The reference's high code of a byte. -/
theorem ref_hi (b : BitVec 8) : ((BitVec.setWidth 32 b >>> 4).toNat : Int) = ((nib b 1).toNat : Int) := by
  revert b; decide

end Cert.Codes

namespace Cert.KernelIdeal.Block
open Cert.KernelIdeal Cert.KernelIdeal.Gen Idealize.ShloMosaic Idealize.ShloMosaic.TcCoe Idealize.SL.Sem
open Cert.Codes

/-- Row `k` of a chunk's codes: the low nibble of packed row `k / 2` where `k` is even, the high one
    where it is odd. -/
theorem codes_at (w : Vec Ideal S1024x256 .i8) (k : Fin 2048) (j : Fin 256) :
    k0_pay7 w (ix2 k j) = code (nib (w (ix2 (⟨k.val / 2, by omega⟩ : Fin 1024) j)) (k.val % 2)) := by
  pointwise [k0_pay7]
  have e := kernel_code (bitcast S256x256 32 w bitcasts_S1024x256_w8_S256x256_w32
    (ix2 (⟨k.val / 8, by omega⟩ : Fin 256) j)) (k.val % 8) (by omega)
  have f := extract_word w bitcasts_S1024x256_w8_S256x256_w32 (⟨k.val / 8, by omega⟩ : Fin 256) j
    (k.val % 8) (by omega) (⟨k.val / 2, by omega⟩ : Fin 1024) (by show k.val / 2 = 4 * (k.val / 8) + k.val % 8 / 2; omega)
  rw [f, show k.val % 8 % 2 = k.val % 2 by omega] at e
  exact congrArg (fun z : Int => ((z : ℝ) : EReal)) e

end Cert.KernelIdeal.Block
-- ==== Proof.BlockMath.lean ====
/- The value of one block at exact arithmetic: the eight partial products add up to one sum over the
   whole contraction. -/
module

public import proofs.«01_k».proof.Proof.Block
public import proofs.«01_k».proof.Proof.Nibble

@[expose] public section

set_option maxRecDepth 65536

noncomputable section

namespace Cert.KernelIdeal.Block

open Cert.KernelIdeal Cert.KernelIdeal.Gen Idealize.ShloMosaic Idealize.ShloMosaic.TcCoe Idealize.SL.Sem
open Cert.Codes

/-- Row `t` of group `g`, column `j`: the code times the group's scale. -/
theorem piece_at (codes : FVec Ideal S2048x256 .bf16) (rows : Fin 16 → Vec Ideal S1x256 .f32)
    (g : Fin 16) (t : Fin 128) (j : Fin 256) : piece codes rows g (ix2 t j)
    = codes (ix2 (⟨128 * g.val + t.val, by omega⟩ : Fin 2048) j) * rows g (ix2 (0 : Fin 1) j) := by
  pointwise [piece]

/-- Row `t` of group `g` of a chunk's weights, column `j`. -/
theorem chunkW_at (codes : FVec Ideal S2048x256 .bf16) (rows : Fin 16 → Vec Ideal S1x256 .f32)
    (g : Fin 16) (t : Fin 128) (j : Fin 256) :
    chunkW codes rows (ix2 (⟨128 * g.val + t.val, by omega⟩ : Fin 2048) j)
    = piece codes rows g (ix2 t j) := by
  unfold chunkW
  refine concatenate_ofFn_apply (t := S2048x256) 0 (fun g => piece codes rows g) _ rfl 128 rfl _ g ?_ (ix2 t j) ?_ ?_
  · show (128 * g.val + t.val) / 128 = g.val
    omega
  · show t.val = (128 * g.val + t.val) % 128
    omega
  · intro b hb
    match b with
    | ⟨0, _⟩ => exact absurd rfl hb
    | ⟨1, _⟩ => rfl

/-- One more chunk adds its part of the sum. -/
theorem step_at (x : Fin 8 → Vec Ideal S96x2048 .bf16) (w : Fin 8 → Vec Ideal S1024x256 .i8)
    (rows : Fin 128 → Vec Ideal S1x256 .f32) (n : Fin 8) (acc : FVec Ideal S96x256 .f32) (r : Fin 96) (j : Fin 256) :
    step x w rows n acc (ix2 r j) = acc (ix2 r j) + ∑ k : Fin 2048, x n (ix2 r k)
      * chunkW (k0_pay7 (w n)) (fun g => rows ⟨16 * n.val + g.val, by omega⟩) (ix2 k j) := by
  pointwise [step, k0_pay6]

/-- Chunk `n` of x at row `r`. -/
theorem xChunk_at (x : FVec Ideal S96x16384 .bf16) (n : Fin 8) (r : Fin 96) (k : Fin 2048) :
    xChunk (F := Ideal) x n (ix2 r k) = x (ix2 r (⟨2048 * n.val + k.val, by omega⟩ : Fin 16384)) := by
  pointwise [xChunk]

/-- Chunk `n` of the packed weights at column `j`. -/
theorem wChunk_at (w : Vec Ideal S8192x256 .i8) (n : Fin 8) (i : Fin 1024) (j : Fin 256) :
    wChunk w n (ix2 i j) = w (ix2 (⟨1024 * n.val + i.val, by omega⟩ : Fin 8192) j) := by
  pointwise [wChunk]

/-- Row `g` of the scales at column `j`. -/
theorem sRow_at (s : FVec Ideal S128x256 .bf16) (g : Fin 128) (j : Fin 256) :
    sRow (F := Ideal) (k0_pay2 (F := Ideal) s) g (ix2 (0 : Fin 1) j) = s (ix2 g j) := by
  pointwise [sRow, k0_pay2]

/-- The dequantised weight at row `k` of the contraction, column `j` of the block: its code times its
    group's scale. -/
def weight (w : Vec Ideal S8192x256 .i8) (s : FVec Ideal S128x256 .bf16) (k : Fin 16384)
    (j : Fin 256) : EReal :=
  code (nib (w (ix2 (⟨k.val / 2, by omega⟩ : Fin 8192) j)) (k.val % 2))
    * s (ix2 (⟨k.val / 128, by omega⟩ : Fin 128) j)

/-- Row `k` of chunk `n`'s weights is row `2048 n + k` of the contraction. -/
theorem chunk_weight (w : Vec Ideal S8192x256 .i8) (s : FVec Ideal S128x256 .bf16) (n : Fin 8)
    (k : Fin 2048) (j : Fin 256) :
    chunkW (k0_pay7 (wChunk w n)) (fun g => sRow (k0_pay2 (F := Ideal) s) ⟨16 * n.val + g.val, by omega⟩) (ix2 k j)
    = weight w s ⟨2048 * n.val + k.val, by omega⟩ j := by
  obtain ⟨g, t, rfl⟩ : ∃ (g : Fin 16) (t : Fin 128), k = ⟨128 * g.val + t.val, by omega⟩ :=
    ⟨⟨k.val / 128, by omega⟩, ⟨k.val % 128, by omega⟩, Fin.ext (Nat.div_add_mod _ _).symm⟩
  rw [chunkW_at, piece_at, codes_at, wChunk_at, sRow_at]
  unfold weight
  have e1 : (128 * g.val + t.val) % 2 = (2048 * n.val + (128 * g.val + t.val)) % 2 := by omega
  have e2 : 1024 * n.val + (128 * g.val + t.val) / 2 = (2048 * n.val + (128 * g.val + t.val)) / 2 := by omega
  have e3 : 16 * n.val + g.val = (2048 * n.val + (128 * g.val + t.val)) / 128 := by omega
  simp only [e1, e2, e3]

/-- One more chunk adds the sum over its 2048 rows of the contraction. -/
theorem step_sum (x : FVec Ideal S96x16384 .bf16) (w : Vec Ideal S8192x256 .i8)
    (s : FVec Ideal S128x256 .bf16) (n : Fin 8) (acc : FVec Ideal S96x256 .f32) (r : Fin 96)
    (j : Fin 256) : step (xChunk x) (wChunk w) (sRow (k0_pay2 (F := Ideal) s)) n acc (ix2 r j)
    = acc (ix2 r j) + ∑ t : Fin 2048, x (ix2 r (⟨n.val * 2048 + t.val, by omega⟩ : Fin 16384))
      * weight w s ⟨n.val * 2048 + t.val, by omega⟩ j := by
  refine (step_at _ _ _ n acc r j).trans (congrArg _ (Finset.sum_congr rfl fun t _ => ?_))
  rw [xChunk_at, chunk_weight]
  simp only [Nat.mul_comm 2048]

/-- The block's projection at row `r`, column `j`: one sum over the whole contraction. -/
theorem proj_at (x : FVec Ideal S96x16384 .bf16) (w : Vec Ideal S8192x256 .i8)
    (s : FVec Ideal S128x256 .bf16) (r : Fin 96) (j : Fin 256) :
    proj x w s (ix2 r j) = ∑ k : Fin 16384, x (ix2 r k) * weight w s k j := by
  have z : (k0_pay4 : FVec Ideal S96x256 .f32) (ix2 r j) = 0 := by pointwise [k0_pay4]
  have h := Fin.sum_univ_tiles 8 2048 rfl fun k : Fin 16384 => x (ix2 r k) * weight w s k j
  refine Eq.trans ?_ (h.trans (Fin.sum_univ_eight _)).symm
  unfold proj total
  simp only [step_sum, z, zero_add]

/-- A sum over the contraction is the sum over its even rows plus the sum over its odd rows. -/
theorem sum_even_odd (f : Fin 16384 → EReal) : ∑ k : Fin 16384, f k
    = (∑ i : Fin 8192, f ⟨2 * i.val, by omega⟩) + ∑ i : Fin 8192, f ⟨2 * i.val + 1, by omega⟩ := by
  refine (Fin.sum_univ_tiles 8192 2 rfl f).trans ?_
  simp only [Fin.sum_univ_two]
  rw [Finset.sum_add_distrib]
  simp only [Nat.mul_comm 2]
  rfl

/-- The block's projection as the two sums of the two nibbles of each packed row. -/
theorem proj_split (x : FVec Ideal S96x16384 .bf16) (w : Vec Ideal S8192x256 .i8)
    (s : FVec Ideal S128x256 .bf16) (r : Fin 96) (j : Fin 256) :
    proj x w s (ix2 r j)
    = (∑ i : Fin 8192, x (ix2 r (⟨2 * i.val, by omega⟩ : Fin 16384))
        * (code (nib (w (ix2 i j)) 0) * s (ix2 (⟨i.val / 64, by omega⟩ : Fin 128) j)))
      + ∑ i : Fin 8192, x (ix2 r (⟨2 * i.val + 1, by omega⟩ : Fin 16384))
        * (code (nib (w (ix2 i j)) 1) * s (ix2 (⟨i.val / 64, by omega⟩ : Fin 128) j)) := by
  rw [proj_at, sum_even_odd]
  have e0 : ∀ i : Fin 8192, weight w s ⟨2 * i.val, by omega⟩ j
      = code (nib (w (ix2 i j)) 0) * s (ix2 (⟨i.val / 64, by omega⟩ : Fin 128) j) := fun i => by
    have h1 : 2 * i.val / 2 = i.val := by omega
    have h2 : 2 * i.val % 2 = 0 := by omega
    have h3 : 2 * i.val / 128 = i.val / 64 := by omega
    simp only [weight, h1, h2, h3]
  have e1 : ∀ i : Fin 8192, weight w s ⟨2 * i.val + 1, by omega⟩ j
      = code (nib (w (ix2 i j)) 1) * s (ix2 (⟨i.val / 64, by omega⟩ : Fin 128) j) := fun i => by
    have h1 : (2 * i.val + 1) / 2 = i.val := by omega
    have h2 : (2 * i.val + 1) % 2 = 1 := by omega
    have h3 : (2 * i.val + 1) / 128 = i.val / 64 := by omega
    simp only [weight, h1, h2, h3]
  simp only [e0, e1]

/-- What the block writes at row `r`, column `j`: with `g` and `u` the two projections there, `g`
    times its logistic, times `u`. -/
theorem blockOut_at (x : FVec Ideal S96x16384 .bf16) (wg : Vec Ideal S8192x256 .i8)
    (sg : FVec Ideal S128x256 .bf16) (wu : Vec Ideal S8192x256 .i8) (su : FVec Ideal S128x256 .bf16)
    (r : Fin 96) (j : Fin 256) : blockOut x wg sg wu su (ix2 r j)
    = proj x wg sg (ix2 r j) * Ideal.logistic (proj x wg sg (ix2 r j)) * proj x wu su (ix2 r j) := by
  pointwise [blockOut, k0_pay1, k0_pay268]

end Cert.KernelIdeal.Block
-- ==== Proof.Formula.lean ====
/- The value both programs compute, as one formula over the arguments: two sums over the packed rows,
   one for each nibble, of x times the dequantised weight. -/
module

public import proofs.«01_k».proof.Proof.Nibble

@[expose] public section

noncomputable section

namespace Cert.Formula

open Idealize.ShloMosaic Cert.Codes

/-- x times the dequantised weights at row `r`, output column `n`: packed row `i` holds the weights of
    columns `2 i` (low nibble) and `2 i + 1` (high nibble) of x, and row `i / 64` of the scales is
    theirs. -/
def proj (x : FVec Ideal ⟨3, ![96, 1, 16384]⟩ .bf16) (w : IVec ⟨2, ![8192, 3584]⟩ 8)
    (s : FVec Ideal ⟨2, ![128, 3584]⟩ .bf16) (r : Fin 96) (n : Fin 3584) : EReal :=
  (∑ i : Fin 8192, x (ix3 r (0 : Fin 1) (⟨2 * i.val, by omega⟩ : Fin 16384))
      * (code (nib (w (ix2 i n)) 0) * s (ix2 (⟨i.val / 64, by omega⟩ : Fin 128) n)))
    + ∑ i : Fin 8192, x (ix3 r (0 : Fin 1) (⟨2 * i.val + 1, by omega⟩ : Fin 16384))
      * (code (nib (w (ix2 i n)) 1) * s (ix2 (⟨i.val / 64, by omega⟩ : Fin 128) n))

/-- The result at row `r`, column `n`: the first projection times its logistic, times the second. -/
def out (x : FVec Ideal ⟨3, ![96, 1, 16384]⟩ .bf16) (wg : IVec ⟨2, ![8192, 3584]⟩ 8)
    (sg : FVec Ideal ⟨2, ![128, 3584]⟩ .bf16) (wu : IVec ⟨2, ![8192, 3584]⟩ 8)
    (su : FVec Ideal ⟨2, ![128, 3584]⟩ .bf16) (r : Fin 96) (n : Fin 3584) : EReal :=
  proj x wg sg r n * Ideal.logistic (proj x wg sg r n) * proj x wu su r n

end Cert.Formula
-- ==== Proof.Result.lean ====
/- What the kernel's result array holds after the run: the formula at every index. -/
module

public import proofs.«01_k».proof.Proof.BlockMath
public import proofs.«01_k».proof.Proof.Formula
public import Idealize.ShloMosaic.Lib.Claim

@[expose] public section

set_option maxRecDepth 65536

noncomputable section

namespace Cert.KernelIdeal.Value

open Cert.KernelIdeal Cert.KernelIdeal.Gen Idealize.ShloMosaic Idealize.ShloMosaic.TcCoe Idealize.SL.Sem
open Cert.Codes

variable (m : (ℓ : Loc nD τ sig) → Buf (Elt Ideal) ℓ)

/-- Which block each window is at, at grid point `t`: x whole, everything else at column block `t`. -/
theorem idx : ∀ t : Fin cfg0.N, win0_0.index t = ![0, 0] ∧ win0_1.index t = ![0, t.val]
    ∧ win0_2.index t = ![0, t.val] ∧ win0_3.index t = ![0, t.val] ∧ win0_4.index t = ![0, t.val]
    ∧ win0_5.index t = ![0, t.val] :=
  (by decide +kernel : ∀ t : Fin grid0.N, _)

/-- The result array, as a function of the arguments. -/
def resultArr (c : Dev nD) : FVec Ideal S96x3584 .bf16 := fun i =>
  Formula.out (m ((c : Thread nD τ).loc main_arg0)) (m ((c : Thread nD τ).loc main_arg1))
    (m ((c : Thread nD τ).loc main_arg2)) (m ((c : Thread nD τ).loc main_arg3))
    (m ((c : Thread nD τ).loc main_arg4)) (i 0) (i 1)

/-- The block of x that point `t` stages is x, its rows the first coordinate. -/
theorem x_block (c : Dev nD) (t : Fin cfg0.N) (r : Fin 96) (k : Fin 16384) :
    (show FVec Ideal S96x16384 .bf16 from iblk m c 0 t) (ix2 r k)
    = (show FVec Ideal S96x1x16384 .bf16 from m ((c : Thread nD τ).loc main_arg0)) (ix3 r (0 : Fin 1) k) := by
  have e : ((cfg0.win 0).blk t).view.emb (ix2 r k) = (ix2 r k : S96x16384.Idx) := by
    blk_ext [idx t]
  show (V m c main_v0) (((cfg0.win 0).blk t).view.emb (ix2 r k)) = _
  rw [e]
  entry_read
  pointwise

/-- The block of packed weights that point `t` stages, for the first projection. -/
theorem wg_block (c : Dev nD) (t : Fin cfg0.N) (i : Fin 8192) (j : Fin 256) (n : Fin 3584)
    (hn : n.val = t.val * 256 + j.val) :
    (show IVec S8192x256 8 from iblk m c 1 t) (ix2 i j)
    = (show IVec S8192x3584 8 from m ((c : Thread nD τ).loc main_arg1)) (ix2 i n) := by
  blk_ext [iblk, V, idx t]

/-- The block of scales that point `t` stages, for the first projection. -/
theorem sg_block (c : Dev nD) (t : Fin cfg0.N) (i : Fin 128) (j : Fin 256) (n : Fin 3584)
    (hn : n.val = t.val * 256 + j.val) :
    (show FVec Ideal S128x256 .bf16 from iblk m c 2 t) (ix2 i j)
    = (show FVec Ideal S128x3584 .bf16 from m ((c : Thread nD τ).loc main_arg2)) (ix2 i n) := by
  blk_ext [iblk, V, idx t]

/-- The block of packed weights that point `t` stages, for the second projection. -/
theorem wu_block (c : Dev nD) (t : Fin cfg0.N) (i : Fin 8192) (j : Fin 256) (n : Fin 3584)
    (hn : n.val = t.val * 256 + j.val) :
    (show IVec S8192x256 8 from iblk m c 3 t) (ix2 i j)
    = (show IVec S8192x3584 8 from m ((c : Thread nD τ).loc main_arg3)) (ix2 i n) := by
  blk_ext [iblk, V, idx t]

/-- The block of scales that point `t` stages, for the second projection. -/
theorem su_block (c : Dev nD) (t : Fin cfg0.N) (i : Fin 128) (j : Fin 256) (n : Fin 3584)
    (hn : n.val = t.val * 256 + j.val) :
    (show FVec Ideal S128x256 .bf16 from iblk m c 4 t) (ix2 i j)
    = (show FVec Ideal S128x3584 .bf16 from m ((c : Thread nD τ).loc main_arg4)) (ix2 i n) := by
  blk_ext [iblk, V, idx t]

/-- The projection of a block at column `j` is the formula at column `n`, where the block's inputs are
    the arguments' there. -/
theorem proj_eq (x : FVec Ideal S96x16384 .bf16) (w : Vec Ideal S8192x256 .i8)
    (s : FVec Ideal S128x256 .bf16) (X : FVec Ideal S96x1x16384 .bf16) (W : IVec S8192x3584 8)
    (S : FVec Ideal S128x3584 .bf16) (r : Fin 96) (j : Fin 256) (n : Fin 3584)
    (hx : ∀ k : Fin 16384, x (ix2 r k) = X (ix3 r (0 : Fin 1) k))
    (hw : ∀ i : Fin 8192, w (ix2 i j) = W (ix2 i n)) (hs : ∀ i : Fin 128, s (ix2 i j) = S (ix2 i n)) :
    Block.proj x w s (ix2 r j) = Formula.proj X W S r n := by
  rw [Block.proj_split]
  simp only [hx, hw, hs]
  rfl

/-- What point `t` writes at row `r`, column `j` of its block. -/
theorem block_at (c : Dev nD) (t : Fin cfg0.N) (r : Fin 96) (j : Fin 256) (n : Fin 3584)
    (hn : n.val = t.val * 256 + j.val) :
    Block.blockOut (iblk m c 0 t) (iblk m c 1 t) (iblk m c 2 t) (iblk m c 3 t) (iblk m c 4 t) (ix2 r j)
    = resultArr m c (ix2 r n) := by
  refine (Block.blockOut_at _ _ _ _ _ r j).trans ?_
  rw [proj_eq (iblk m c 0 t) (iblk m c 1 t) (iblk m c 2 t) _ _ _ r j n (x_block m c t r)
      (fun i => wg_block m c t i j n hn) (fun i => sg_block m c t i j n hn),
    proj_eq (iblk m c 0 t) (iblk m c 3 t) (iblk m c 4 t) _ _ _ r j n (x_block m c t r)
      (fun i => wu_block m c t i j n hn) (fun i => su_block m c t i j n hn)]
  rfl

/-- What the kernel's result array holds after the run. -/
theorem final (c : Dev nD) : (dats m 0 c).arrAt 5 cfg0.N = resultArr m c := by
  refine (dats m 0 c).arrAt_eq_of_covers 5 _ (by decide +kernel) fun t _ y => ?_
  blk_simp
  rw [after0_5]
  unfold outsAt0
  rw [Block.out_eq]
  obtain ⟨r, j, rfl⟩ : ∃ (r : Fin 96) (j : Fin 256), y = ix2 r j := ⟨y 0, y 1, eq_ix2 y⟩
  have ht : t.val < 14 := t.isLt
  have hn : t.val * 256 + j.val < 3584 := by omega
  refine (block_at m c t r j ⟨t.val * 256 + j.val, hn⟩ rfl).trans (congrArg (resultArr m c) ?_)
  blk_ext [idx t]

end Cert.KernelIdeal.Value
-- ==== Proof.Reference.lean ====
/- What the reference computes, read at an index. -/
module

public import proofs.«01_k».proof.Proof.Formula
public import proofs.«01_k».proof.Proof.Gen.ReferenceIdeal.Run

@[expose] public section

set_option maxRecDepth 65536

noncomputable section

namespace Cert.ReferenceIdeal.Value

open Cert.ReferenceIdeal Cert.ReferenceIdeal.Gen Idealize.ShloMosaic Idealize.ShloMosaic.TcCoe Idealize.SL.Sem
open Cert.Codes

/-- The codes of the low nibbles. -/
def loCodes (w : IVec S8192x3584 8) : IVec S8192x3584 32 :=
  andi (extui 32 w natLt_8_32) (broadcastInDim S8192x3584 ![] bcast_S_S8192x3584 (constantI S_ 32 15#32))

/-- The codes of the high nibbles. -/
def hiCodes (w : IVec S8192x3584 8) : IVec S8192x3584 32 :=
  Host.shrui (extui 32 w natLt_8_32) (broadcastInDim S8192x3584 ![] bcast_S_S8192x3584 (constantI S_ 32 4#32))

/-- The weights of one nibble: each code less eight, times the scale of its group of 64 packed rows. -/
def field (v : IVec S8192x3584 32) (s : FVec Ideal S128x3584 .bf16) : FVec Ideal S8192x3584 .bf16 :=
  shapeCast _ (mulf (shapeCast _ (subf (uitofp .bf16 v)
    (broadcastInDim S8192x3584 ![] bcast_S_S8192x3584 (constant S_ .bf16 0x4100#16)))
    shapeCasts_S8192x3584_S128x64x3584)
    (broadcastInDim S128x64x3584 ![0, 1, 2] bcast_S128x1x3584_S128x64x3584_0_1_2
      (broadcastInDim S128x1x3584 ![0, 2] bcast_S128x3584_S128x1x3584_0_2 s)))
    shapeCasts_S128x64x3584_S8192x3584

/-- x times the dequantised weights: its even columns times the low nibbles' weights plus its odd
    columns times the high nibbles'. -/
def projection (x : FVec Ideal S96x1x16384 .bf16) (w : IVec S8192x3584 8)
    (s : FVec Ideal S128x3584 .bf16) : FVec Ideal S96x1x3584 .f32 :=
  addf (Host.dotGeneral dot_S96x1x8192_S8192x3584_S96x1x3584_2_0_01_1_n_n none
      (Host.slice S96x1x8192 ![0, 0, 0] ![1, 1, 2] x slicesBy_S96x1x16384_S96x1x8192_0s1_0s1_0s2)
      (field (loCodes w) s))
    (Host.dotGeneral dot_S96x1x8192_S8192x3584_S96x1x3584_2_0_01_1_n_n none
      (Host.slice S96x1x8192 ![0, 0, 1] ![1, 1, 2] x slicesBy_S96x1x16384_S96x1x8192_0s1_0s1_1s2)
      (field (hiCodes w) s))

/-- The first projection times its logistic, times the second projection. -/
def result (g u : FVec Ideal S96x1x3584 .f32) : FVec Ideal S96x3584 .bf16 :=
  shapeCast _ (truncf .bf16 (mulf (mulf g
    (Host.divf (broadcastInDim S96x1x3584 ![] bcast_S_S96x1x3584 (constant S_ .f32 0x3F800000#32))
      (addf (broadcastInDim S96x1x3584 ![] bcast_S_S96x1x3584 (constant S_ .f32 0x3F800000#32))
        (Host.exp (Host.negf g))))) u) bitsLt_bf16_f32) shapeCasts_S96x1x3584_S96x3584

/-- The bfloat16 constant of the offset is eight. -/
theorem eight : Ideal.ofBits .bf16 0x4100#16 = ((8 : ℝ) : EReal) := by
  simp [Ideal.ofBits, Ideal.ieee, -EReal.coe_mul]; norm_num

/-- A nibble read unsigned, less eight, is its code. -/
theorem less_eight (v : BitVec 32) (b : BitVec 4) (h : (v.toNat : Int) = (b.toNat : Int)) :
    (((v.toNat : ℝ) : EReal)) - ((8 : ℝ) : EReal) = code b := by
  have h' : v.toNat = b.toNat := by exact_mod_cast h
  rw [h', code, ← EReal.coe_sub]
  push_cast
  rfl

/-- The weights of one nibble at packed row `i`, column `n`. -/
theorem field_at (v : IVec S8192x3584 32) (s : FVec Ideal S128x3584 .bf16) (i : Fin 8192)
    (n : Fin 3584) (b : BitVec 4) (h : ((v (ix2 i n)).toNat : Int) = (b.toNat : Int)) :
    field v s (ix2 i n) = code b * s (ix2 (⟨i.val / 64, by omega⟩ : Fin 128) n) := by
  pointwise [field]
  rw [eight]
  exact congrArg (· * s (ix2 (⟨i.val / 64, by omega⟩ : Fin 128) n)) (less_eight _ b h)

/-- The codes of the low nibbles at an index. -/
theorem lo_at (w : IVec S8192x3584 8) (i : Fin 8192) (n : Fin 3584) :
    ((loCodes w (ix2 i n)).toNat : Int) = ((nib (w (ix2 i n)) 0).toNat : Int) := by
  pointwise [loCodes]
  exact ref_lo _

/-- The codes of the high nibbles at an index. -/
theorem hi_at (w : IVec S8192x3584 8) (i : Fin 8192) (n : Fin 3584) :
    ((hiCodes w (ix2 i n)).toNat : Int) = ((nib (w (ix2 i n)) 1).toNat : Int) := by
  pointwise [hiCodes]
  exact ref_hi _

/-- The reference's projection at an index is the formula. -/
theorem projection_at (x : FVec Ideal S96x1x16384 .bf16) (w : IVec S8192x3584 8)
    (s : FVec Ideal S128x3584 .bf16) (r : Fin 96) (n : Fin 3584) :
    projection x w s (ix3 r (0 : Fin 1) n) = Formula.proj x w s r n := by
  have e0 : ∀ i : Fin 8192, field (loCodes w) s (ix2 i n)
      = code (nib (w (ix2 i n)) 0) * s (ix2 (⟨i.val / 64, by omega⟩ : Fin 128) n) :=
    fun i => field_at _ s i n _ (lo_at w i n)
  have e1 : ∀ i : Fin 8192, field (hiCodes w) s (ix2 i n)
      = code (nib (w (ix2 i n)) 1) * s (ix2 (⟨i.val / 64, by omega⟩ : Fin 128) n) :=
    fun i => field_at _ s i n _ (hi_at w i n)
  pointwise [projection]
  simp only [e0, e1, Nat.add_comm 1]
  rfl

/-- The reference's result at an index, over its two projections. -/
theorem combine_at (g u : FVec Ideal S96x1x3584 .f32) (r : Fin 96) (n : Fin 3584) :
    result g u (ix2 r n) = g (ix3 r (0 : Fin 1) n) * Ideal.logistic (g (ix3 r (0 : Fin 1) n))
      * u (ix3 r (0 : Fin 1) n) := by
  pointwise [result]
  rfl

variable (m : (ℓ : Loc nD τ sig) → Buf (Elt Ideal) ℓ)

/-- The reference's result at row `r`, column `n`, is the formula over its arguments. -/
theorem result_at (c : Dev nD) (r : Fin 96) (n : Fin 3584) :
    res_main_v53 m c (ix2 r n) = Formula.out (m ((c : Thread nD τ).loc main_arg0))
      (m ((c : Thread nD τ).loc main_arg1)) (m ((c : Thread nD τ).loc main_arg2))
      (m ((c : Thread nD τ).loc main_arg3)) (m ((c : Thread nD τ).loc main_arg4)) r n := by
  have e : res_main_v53 m c = result
      (projection (m ((c : Thread nD τ).loc main_arg0)) (m ((c : Thread nD τ).loc main_arg1))
        (m ((c : Thread nD τ).loc main_arg2)))
      (projection (m ((c : Thread nD τ).loc main_arg0)) (m ((c : Thread nD τ).loc main_arg3))
        (m ((c : Thread nD τ).loc main_arg4))) := rfl
  rw [e, combine_at, projection_at, projection_at]
  rfl

end Cert.ReferenceIdeal.Value
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Result
public import proofs.«01_k».proof.Proof.Reference
public import Idealize.ShloMosaic.Adequacy
public import Idealize.ShloMosaic.Init
public import Idealize.ShloMosaic.Lib.Quiescent

@[expose] public section

noncomputable section

namespace Cert.Proof

open Idealize.ShloMosaic Idealize.SL.Sem

/-- Every run of the kernel ends, faults nowhere, leaves its arguments as they were and every semaphore
    counter at zero. -/
theorem frame_kernel : Cert.quiescent_Kernel := fun m g _ => Cert.Kernel.Gen.frame m g

/-- The same of the kernel read over the extended reals. -/
theorem frame_kernel_ideal : Cert.quiescent_KernelIdeal := fun m g _ => Cert.KernelIdeal.Gen.frame m g

/-- The same of the reference read over the extended reals, which has no semaphore. -/
theorem frame_reference : Cert.quiescent_ReferenceIdeal := by
  intro m g hpre
  refine (θ_run _ _ _).mono (fun r h => ?_) (Cert.ReferenceIdeal.Value.run m g)
  exact ⟨fun c => (h c).2, sem_eq_zero_of_no_sems rfl r.2⟩

/-- The reference's result, from the kernel's arguments, is the kernel's result array. -/
theorem results_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4)
      = m ((c.tc : Thread Cert.KernelIdeal.nD Cert.KernelIdeal.τ).loc Cert.KernelIdeal.main_arg4)) :
    Cert.ReferenceIdeal.Value.res_main_v53 m' c = Cert.KernelIdeal.Value.resultArr m c := by
  funext i
  rw [eq_ix2 i]
  refine (Cert.ReferenceIdeal.Value.result_at m' c (i 0) (i 1)).trans ?_
  rw [h0, h1, h2, h3, h4]
  rfl

/-- Over the extended reals, from equal arguments, the kernel and the reference end with equal results. -/
theorem algebraic : Cert.algebraic_KernelIdeal_ReferenceIdeal := by
  intro m g m' g' hpre hagree
  refine ⟨Cert.KernelIdeal.Value.resultArr m, ?_, ?_⟩
  · refine (θ_run _ _ _).mono (fun r h c => ?_) (Cert.KernelIdeal.Value.run_blocks m g)
    exact ⟨(h c).1.trans (Cert.KernelIdeal.Value.final m c), (h c).2⟩
  · refine (θ_run _ _ _).mono (fun r h c => ?_) (Cert.ReferenceIdeal.Value.run m' g')
    obtain ⟨a0, a1, a2, a3, a4⟩ := hagree c
    exact ⟨(h c).1.trans (results_agree m m' c a0 a1 a2 a3 a4), (h c).2⟩

/-- Everything claimed. -/
theorem claim : Cert.Claim := ⟨Cert.Kernel.Gen.facts, Cert.KernelIdeal.Gen.facts, Cert.ReferenceIdeal.Gen.facts,
  frame_kernel, frame_kernel_ideal, frame_reference, trivial, algebraic⟩

end Cert.Proof

end
